-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S8192x768 : Shape := ⟨2, ![8192, 768]⟩
abbrev S8x96 : Shape := ⟨2, ![8, 96]⟩
abbrev S8x96x768 : Shape := ⟨3, ![8, 96, 768]⟩
abbrev S64x768 : Shape := ⟨2, ![64, 768]⟩
abbrev S768x64 : Shape := ⟨2, ![768, 64]⟩
abbrev S_ : Shape := ⟨0, ![]⟩

class Facts : Prop where
  bcast_S_S8192x768 : S_.BroadcastsInDim S8192x768 (![] : Fin 0 → Fin S8192x768.rank)

variable [Facts]

def fn {F : FTy → Type} [FloatOps F] (main_arg0 : FVec F S8192x768 .f32) (main_arg1 : FVec F S8x96 .f32) (main_arg2 : FVec F S8x96x768 .f32) (main_arg3 : FVec F S64x768 .f32) (main_arg4 : FVec F S768x64 .f32) : IVec S8192x768 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  main_v2
-- ==== Kernel.lean ====
abbrev S8192x768 : Shape := ⟨2, ![8192, 768]⟩
abbrev S8x96 : Shape := ⟨2, ![8, 96]⟩
abbrev S8x96x768 : Shape := ⟨3, ![8, 96, 768]⟩
abbrev S64x768 : Shape := ⟨2, ![64, 768]⟩
abbrev S768x64 : Shape := ⟨2, ![768, 64]⟩
abbrev S768x768 : Shape := ⟨2, ![768, 768]⟩
abbrev S768 : Shape := ⟨1, ![768]⟩
abbrev S_ : Shape := ⟨0, ![]⟩
abbrev S768x8 : Shape := ⟨2, ![768, 8]⟩
abbrev S768x1 : Shape := ⟨2, ![768, 1]⟩
abbrev S768x2 : Shape := ⟨2, ![768, 2]⟩
abbrev S8 : Shape := ⟨1, ![8]⟩
abbrev S8x1 : Shape := ⟨2, ![8, 1]⟩
abbrev S1x768 : Shape := ⟨2, ![1, 768]⟩
abbrev S8x768 : Shape := ⟨2, ![8, 768]⟩
abbrev S512x768 : Shape := ⟨2, ![512, 768]⟩
abbrev S512x8 : Shape := ⟨2, ![512, 8]⟩
abbrev S512 : Shape := ⟨1, ![512]⟩
abbrev S512x1 : Shape := ⟨2, ![512, 1]⟩
abbrev S512x64 : Shape := ⟨2, ![512, 64]⟩

abbrev nBuf : Space → Nat
  | .hbm => 57
  | .vmem => 9
  | .smem => 0
  | _ => 0

abbrev bufTy : (tb : Table) → Fin (tcTables nBuf tb) → BufTy
  | .hbm, ⟨0, _⟩ => ⟨S8192x768, .f32⟩
  | .hbm, ⟨1, _⟩ => ⟨S8x96, .f32⟩
  | .hbm, ⟨2, _⟩ => ⟨S8x96x768, .f32⟩
  | .hbm, ⟨3, _⟩ => ⟨S64x768, .f32⟩
  | .hbm, ⟨4, _⟩ => ⟨S768x64, .f32⟩
  | .hbm, ⟨5, _⟩ => ⟨S768x768, .f32⟩
  | .hbm, ⟨6, _⟩ => ⟨S768x64, .f32⟩
  | .hbm, ⟨7, _⟩ => ⟨S64x768, .f32⟩
  | .hbm, ⟨8, _⟩ => ⟨S768, .i32⟩
  | .hbm, ⟨9, _⟩ => ⟨S_, .i32⟩
  | .hbm, ⟨10, _⟩ => ⟨S_, .i32⟩
  | .hbm, ⟨11, _⟩ => ⟨S768, .i32⟩
  | .hbm, ⟨12, _⟩ => ⟨S768, .i32⟩
  | .hbm, ⟨13, _⟩ => ⟨S768, .i32⟩
  | .hbm, ⟨14, _⟩ => ⟨S_, .i32⟩
  | .hbm, ⟨15, _⟩ => ⟨S768, .i32⟩
  | .hbm, ⟨16, _⟩ => ⟨S768, .i1⟩
  | .hbm, ⟨17, _⟩ => ⟨S768, .i32⟩
  | .hbm, ⟨18, _⟩ => ⟨S768, .i32⟩
  | .hbm, ⟨19, _⟩ => ⟨S_, .i32⟩
  | .hbm, ⟨20, _⟩ => ⟨S768, .i32⟩
  | .hbm, ⟨21, _⟩ => ⟨S768, .i1⟩
  | .hbm, ⟨22, _⟩ => ⟨S768, .i1⟩
  | .hbm, ⟨23, _⟩ => ⟨S_, .i32⟩
  | .hbm, ⟨24, _⟩ => ⟨S768, .i32⟩
  | .hbm, ⟨25, _⟩ => ⟨S768, .i32⟩
  | .hbm, ⟨26, _⟩ => ⟨S768, .i32⟩
  | .hbm, ⟨27, _⟩ => ⟨S768, .f32⟩
  | .hbm, ⟨28, _⟩ => ⟨S_, .f32⟩
  | .hbm, ⟨29, _⟩ => ⟨S768x8, .f32⟩
  | .hbm, ⟨30, _⟩ => ⟨S768, .i32⟩
  | .hbm, ⟨31, _⟩ => ⟨S_, .i32⟩
  | .hbm, ⟨32, _⟩ => ⟨S768, .i32⟩
  | .hbm, ⟨33, _⟩ => ⟨S768, .i1⟩
  | .hbm, ⟨34, _⟩ => ⟨S_, .i32⟩
  | .hbm, ⟨35, _⟩ => ⟨S768, .i32⟩
  | .hbm, ⟨36, _⟩ => ⟨S768, .i32⟩
  | .hbm, ⟨37, _⟩ => ⟨S768, .i32⟩
  | .hbm, ⟨38, _⟩ => ⟨S_, .i32⟩
  | .hbm, ⟨39, _⟩ => ⟨S768, .i32⟩
  | .hbm, ⟨40, _⟩ => ⟨S768, .i1⟩
  | .hbm, ⟨41, _⟩ => ⟨S_, .i32⟩
  | .hbm, ⟨42, _⟩ => ⟨S768, .i32⟩
  | .hbm, ⟨43, _⟩ => ⟨S768, .i32⟩
  | .hbm, ⟨44, _⟩ => ⟨S768, .i32⟩
  | .hbm, ⟨45, _⟩ => ⟨S768x1, .i32⟩
  | .hbm, ⟨46, _⟩ => ⟨S768x1, .i32⟩
  | .hbm, ⟨47, _⟩ => ⟨S768x2, .i32⟩
  | .hbm, ⟨48, _⟩ => ⟨S768x8, .f32⟩
  | .hbm, ⟨49, _⟩ => ⟨S8, .i32⟩
  | .hbm, ⟨50, _⟩ => ⟨S8x1, .i32⟩
  | .hbm, ⟨51, _⟩ => ⟨S1x768, .i32⟩
  | .hbm, ⟨52, _⟩ => ⟨S8x768, .i32⟩
  | .hbm, ⟨53, _⟩ => ⟨S8x768, .i32⟩
  | .hbm, ⟨54, _⟩ => ⟨S8x768, .i1⟩
  | .hbm, ⟨55, _⟩ => ⟨S8x768, .f32⟩
  | .hbm, ⟨56, _⟩ => ⟨S8192x768, .f32⟩
  | .local _ .vmem, ⟨0, _⟩ => ⟨S512x768, .f32⟩
  | .local _ .vmem, ⟨1, _⟩ => ⟨S512x768, .f32⟩
  | .local _ .vmem, ⟨2, _⟩ => ⟨S768x8, .f32⟩
  | .local _ .vmem, ⟨3, _⟩ => ⟨S8x768, .f32⟩
  | .local _ .vmem, ⟨4, _⟩ => ⟨S768x768, .f32⟩
  | .local _ .vmem, ⟨5, _⟩ => ⟨S768x64, .f32⟩
  | .local _ .vmem, ⟨6, _⟩ => ⟨S64x768, .f32⟩
  | .local _ .vmem, ⟨7, _⟩ => ⟨S512x768, .f32⟩
  | .local _ .vmem, ⟨8, _⟩ => ⟨S512x768, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_cst : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_v9 : Ref sig .tc := ⟨.hbm, 33, rfl⟩
abbrev main_c_1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_v14 : Ref sig .tc := ⟨.hbm, 40, rfl⟩
abbrev main_c_3 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8192x768 : Shape := ⟨2, ![8192, 768]⟩
abbrev S8x96 : Shape := ⟨2, ![8, 96]⟩
abbrev S8x96x768 : Shape := ⟨3, ![8, 96, 768]⟩
abbrev S64x768 : Shape := ⟨2, ![64, 768]⟩
abbrev S768x64 : Shape := ⟨2, ![768, 64]⟩
abbrev S8192x8x96 : Shape := ⟨3, ![8192, 8, 96]⟩
abbrev S8x8192 : Shape := ⟨2, ![8, 8192]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S8192x8x1 : Shape := ⟨3, ![8192, 8, 1]⟩
abbrev S8 : Shape := ⟨1, ![8]⟩
abbrev S768 : Shape := ⟨1, ![768]⟩
abbrev S768x1 : Shape := ⟨2, ![768, 1]⟩
abbrev S8192x64 : Shape := ⟨2, ![8192, 64]⟩

abbrev nBuf : Space → Nat
  | .hbm => 47
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8x96, .f32⟩
  | .hbm, ⟨2, _⟩ => ⟨S8x96x768, .f32⟩
  | .hbm, ⟨3, _⟩ => ⟨S64x768, .f32⟩
  | .hbm, ⟨4, _⟩ => ⟨S768x64, .f32⟩
  | .hbm, ⟨5, _⟩ => ⟨S8192x8x96, .f32⟩
  | .hbm, ⟨6, _⟩ => ⟨S8x8192, .f32⟩
  | .hbm, ⟨7, _⟩ => ⟨S8192x8, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x8, .f32⟩
  | .hbm, ⟨21, _⟩ => ⟨S8192x8, .f32⟩
  | .hbm, ⟨22, _⟩ => ⟨S8192x8x1, .f32⟩
  | .hbm, ⟨23, _⟩ => ⟨S8192x8x96, .f32⟩
  | .hbm, ⟨24, _⟩ => ⟨S8192x8x96, .f32⟩
  | .hbm, ⟨25, _⟩ => ⟨S8192x768, .f32⟩
  | .hbm, ⟨26, _⟩ => ⟨S8, .i32⟩
  | .hbm, ⟨27, _⟩ => ⟨S8x96, .i32⟩
  | .hbm, ⟨28, _⟩ => ⟨S768, .i32⟩
  | .hbm, ⟨29, _⟩ => ⟨S_, .i32⟩
  | .hbm, ⟨30, _⟩ => ⟨S768, .i32⟩
  | .hbm, ⟨31, _⟩ => ⟨S768, .i1⟩
  | .hbm, ⟨32, _⟩ => ⟨S_, .i32⟩
  | .hbm, ⟨33, _⟩ => ⟨S768, .i32⟩
  | .hbm, ⟨34, _⟩ => ⟨S768, .i32⟩
  | .hbm, ⟨35, _⟩ => ⟨S768, .i32⟩
  | .hbm, ⟨36, _⟩ => ⟨S768x1, .i32⟩
  | .hbm, ⟨37, _⟩ => ⟨S8192x768, .f32⟩
  | .hbm, ⟨38, _⟩ => ⟨S_, .f32⟩
  | .hbm, ⟨39, _⟩ => ⟨S8192x768, .f32⟩
  | .hbm, ⟨40, _⟩ => ⟨S8192x768, .f32⟩
  | .hbm, ⟨41, _⟩ => ⟨S8192x768, .f32⟩
  | .hbm, ⟨42, _⟩ => ⟨S768x64, .f32⟩
  | .hbm, ⟨43, _⟩ => ⟨S8192x64, .f32⟩
  | .hbm, ⟨44, _⟩ => ⟨S64x768, .f32⟩
  | .hbm, ⟨45, _⟩ => ⟨S8192x768, .f32⟩
  | .hbm, ⟨46, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Spec.lean ====
/- The mathematics of one token's row, as plain functions of `Fin` indices over the extended reals.
   A row has 768 features in 8 fragments of 96. A softmax over the fragments' scores weighs the fragments; the weighted
   row goes through the experts' matrix, what the weights leave of the row goes through a low-rank product. -/
module

public import Idealize.ShloMosaic.PureOps.Ideal
public import Idealize.ShloMosaic.PureOps.Ideal.Laws

@[expose] public section

noncomputable section

namespace Fragment

open Idealize.ShloMosaic

/-- The fragment that feature `k` lies in. -/
def frag (k : Fin 768) : Fin 8 := ⟨k.val / 96, by omega⟩
/-- The place of feature `k` within its fragment. -/
def lane (k : Fin 768) : Fin 96 := ⟨k.val % 96, by omega⟩
/-- The feature at place `i` of fragment `f`. -/
def cell (f : Fin 8) (i : Fin 96) : Fin 768 := ⟨f.val * 96 + i.val, by omega⟩

/-- The largest of the eight scores, as a fold from the bit pattern of minus infinity. -/
def top (s : Fin 8 → EReal) : EReal := Finset.fold max (Ideal.ofBits .f32 0xFF800000#32) s Finset.univ
/-- The unnormalised softmax weight of fragment `f`. -/
def weight (s : Fin 8 → EReal) (f : Fin 8) : EReal := Ideal.exp (s f - top s)
/-- The softmax of the eight scores. -/
def share (s : Fin 8 → EReal) (f : Fin 8) : EReal := Ideal.div (weight s f) (∑ g, weight s g)

/-- The score of fragment `f`: the inner product of its selector's weights with the fragment. -/
def score (x : Fin 768 → EReal) (sw : Fin 8 → Fin 96 → EReal) (f : Fin 8) : EReal := ∑ i, sw f i * x (cell f i)

/-- One row of the result as the reference states it. -/
def row (x : Fin 768 → EReal) (sw : Fin 8 → Fin 96 → EReal) (ew : Fin 8 → Fin 96 → Fin 768 → EReal)
    (a : Fin 64 → Fin 768 → EReal) (b : Fin 768 → Fin 64 → EReal) (o : Fin 768) : EReal :=
  (∑ f, ∑ i, x (cell f i) * share (score x sw) f * ew f i o)
    + ∑ c, (∑ k, x k * (1 - share (score x sw) (frag k)) * a c k) * b o c

/-- One row of the result as the kernel computes it from its tables: `s` lays the selectors out as one matrix, `e` spreads
    the eight shares over the features, `w` lists the experts' rows, `a` and `b` are the low-rank factors. -/
def tiled (x : Fin 768 → EReal) (s : Fin 768 → Fin 8 → EReal) (e : Fin 8 → Fin 768 → EReal) (w : Fin 768 → Fin 768 → EReal)
    (a : Fin 768 → Fin 64 → EReal) (b : Fin 64 → Fin 768 → EReal) (o : Fin 768) : EReal :=
  (∑ k, (x k * ∑ f, share (fun g => ∑ l, x l * s l g) f * e f k) * w k o)
    + ∑ c, (∑ k, (x k - x k * ∑ f, share (fun g => ∑ l, x l * s l g) f * e f k) * a k c) * b c o

/-! ## The cells of a row -/

theorem frag_cell (f : Fin 8) (i : Fin 96) : frag (cell f i) = f := Fin.ext (by
  show (f.val * 96 + i.val) / 96 = f.val
  omega)

theorem lane_cell (f : Fin 8) (i : Fin 96) : lane (cell f i) = i := Fin.ext (by
  show (f.val * 96 + i.val) % 96 = i.val
  omega)

theorem cell_frag_lane (k : Fin 768) : cell (frag k) (lane k) = k := Fin.ext (by
  show k.val / 96 * 96 + k.val % 96 = k.val
  omega)

/-- A feature is a fragment and a place in it. -/
def cells : Fin 8 × Fin 96 ≃ Fin 768 where
  toFun p := cell p.1 p.2
  invFun k := (frag k, lane k)
  left_inv p := Prod.ext (frag_cell p.1 p.2) (lane_cell p.1 p.2)
  right_inv k := cell_frag_lane k

/-- A sum over the features, fragment by fragment. -/
theorem sum_cells (g : Fin 768 → EReal) : ∑ k, g k = ∑ f, ∑ i, g (cell f i) := by
  rw [← Equiv.sum_comp cells g, Fintype.sum_prod_type]
  rfl

/-! ## The kernel's tables do what the reference writes out -/

/-- The laid-out selectors give each fragment's score: in a column all entries outside the fragment are zero, and zero times
    anything is zero. -/
theorem score_of_table (x : Fin 768 → EReal) (sw : Fin 8 → Fin 96 → EReal) (s : Fin 768 → Fin 8 → EReal)
    (hs : ∀ k f, s k f = if frag k = f then sw (frag k) (lane k) else 0) (f : Fin 8) :
    ∑ l, x l * s l f = score x sw f := by
  rw [sum_cells, Finset.sum_eq_single f]
  · refine Finset.sum_congr rfl fun i _ => ?_
    rw [hs, frag_cell, lane_cell, if_pos rfl, mul_comm]
  · intro g _ hg
    refine Finset.sum_eq_zero fun i _ => ?_
    rw [hs, frag_cell, if_neg hg, mul_zero]
  · intro h
    exact (h (Finset.mem_univ f)).elim

/-- The 0/1 table spreads the shares over the features. -/
theorem spread_of_table (p : Fin 8 → EReal) (e : Fin 8 → Fin 768 → EReal) (he : ∀ f k, e f k = if f = frag k then 1 else 0)
    (k : Fin 768) : ∑ f, p f * e f k = p (frag k) := by
  rw [Finset.sum_eq_single (frag k)]
  · rw [he, if_pos rfl, mul_one]
  · intro f _ hf
    rw [he, if_neg hf, mul_zero]
  · intro h
    exact (h (Finset.mem_univ _)).elim

/-- For a finite `x`, `x - x * p = x * (1 - p)` whatever `p` is. -/
theorem sub_mul_self (x p : EReal) (ht : x ≠ ⊤) (hb : x ≠ ⊥) : x - x * p = x * (1 - p) := by
  lift x to ℝ using ⟨ht, hb⟩
  induction p using EReal.rec with
  | coe p =>
    rw [← EReal.coe_one, ← EReal.coe_sub, ← EReal.coe_mul, ← EReal.coe_mul, ← EReal.coe_sub, mul_sub, mul_one]
  | top =>
    rw [show (1 : EReal) - ⊤ = ⊥ from EReal.sub_top 1]
    rcases lt_trichotomy x 0 with h | h | h
    · rw [EReal.coe_mul_top_of_neg h, EReal.coe_mul_bot_of_neg h, EReal.coe_sub_bot]
    · subst h
      rw [EReal.coe_zero, zero_mul, zero_mul, sub_zero]
    · rw [EReal.coe_mul_top_of_pos h, EReal.coe_mul_bot_of_pos h, EReal.sub_top]
  | bot =>
    rw [show (1 : EReal) - ⊥ = ⊤ from EReal.coe_sub_bot 1]
    rcases lt_trichotomy x 0 with h | h | h
    · rw [EReal.coe_mul_bot_of_neg h, EReal.coe_mul_top_of_neg h, EReal.sub_top]
    · subst h
      rw [EReal.coe_zero, zero_mul, zero_mul, sub_zero]
    · rw [EReal.coe_mul_bot_of_pos h, EReal.coe_mul_top_of_pos h, EReal.coe_sub_bot]

/-- The kernel's row on its tables is the reference's row, for a row of finite features. -/
theorem tiled_eq_row (x : Fin 768 → EReal) (sw : Fin 8 → Fin 96 → EReal) (ew : Fin 8 → Fin 96 → Fin 768 → EReal)
    (ca : Fin 64 → Fin 768 → EReal) (cb : Fin 768 → Fin 64 → EReal)
    (s : Fin 768 → Fin 8 → EReal) (e : Fin 8 → Fin 768 → EReal) (w : Fin 768 → Fin 768 → EReal)
    (a : Fin 768 → Fin 64 → EReal) (b : Fin 64 → Fin 768 → EReal)
    (hx : ∀ k, x k ≠ ⊤ ∧ x k ≠ ⊥)
    (hs : ∀ k f, s k f = if frag k = f then sw (frag k) (lane k) else 0)
    (he : ∀ f k, e f k = if f = frag k then 1 else 0)
    (hw : ∀ k o, w k o = ew (frag k) (lane k) o) (ha : ∀ k c, a k c = ca c k) (hb : ∀ c o, b c o = cb o c) (o : Fin 768) :
    tiled x s e w a b o = row x sw ew ca cb o := by
  have hsc : (fun g => ∑ l, x l * s l g) = score x sw := funext fun f => score_of_table x sw s hs f
  unfold tiled row
  simp only [hsc, spread_of_table _ e he]
  congr 1
  · rw [sum_cells]
    refine Finset.sum_congr rfl fun f _ => Finset.sum_congr rfl fun i _ => ?_
    rw [hw, frag_cell, lane_cell]
  · refine Finset.sum_congr rfl fun c _ => ?_
    rw [hb]
    refine congrArg (· * cb o c) (Finset.sum_congr rfl fun k _ => ?_)
    rw [ha, sub_mul_self _ _ (hx k).1 (hx k).2]

end Fragment

end
-- ==== Proof.Tables.lean ====
/- What one grid point of the kernel computes, and what the host operations before the call leave in its tables. -/
module

public import proofs.«01_k».proof.Proof.Gen.KernelIdeal.Value
public import Idealize.ShloMosaic.Lib.Pointwise
public import Idealize.ShloMosaic.Lib.StableHlo.ReadAt
public import Idealize.ShloMosaic.Lib.Routing.OpsSet
public import Idealize.ShloMosaic.Lib.Routing.Words
public import proofs.«01_k».proof.Proof.Spec

@[expose] public section

set_option maxRecDepth 16384

noncomputable section

namespace Cert.KernelIdeal.Hand

open Cert.KernelIdeal Cert.KernelIdeal.Gen Idealize.ShloMosaic Idealize.ShloMosaic.TcCoe Idealize.ShloMosaic.Pointwise

/-- The body's block at `(r, o)` is `Fragment.tiled` of row `r` of its block of `x` and the whole tables. -/
theorem block_at (x : Vec Ideal S512x768 .f32) (s : Vec Ideal S768x8 .f32) (e : Vec Ideal S8x768 .f32)
    (w : Vec Ideal S768x768 .f32) (a : Vec Ideal S768x64 .f32) (b : Vec Ideal S64x768 .f32) (r : Fin 512) (o : Fin 768) :
    k0_pay1 x s e w a b (ix2 r o)
      = Fragment.tiled (fun k => x (ix2 r k)) (fun k f => s (ix2 k f)) (fun f k => e (ix2 f k)) (fun k o => w (ix2 k o))
          (fun k c => a (ix2 k c)) (fun c o => b (ix2 c o)) o := by
  pointwise [k0_pay1]
  rfl

variable (m : (ℓ : Loc nD τ sig) → Buf (Elt Ideal) ℓ) (c : Dev nD)

/-- The experts' rows, listed: row `k` is the row of fragment `k / 96` at place `k % 96`. -/
theorem w_at (k o : Fin 768) : (V m c main_v0 : S768x768.Idx → EReal) (ix2 k o)
    = (m ((c : Thread nD τ).loc main_arg2) : S8x96x768.Idx → EReal) (ix3 (Fragment.frag k) (Fragment.lane k) o) := by
  simp only [V, hostOps0, hostOps0_1, hostOps0_2]
  after_reads_at
  rfl

/-- The first low-rank factor is transposed. -/
theorem a_at (k : Fin 768) (o : Fin 64) : (V m c main_v1 : S768x64.Idx → EReal) (ix2 k o)
    = (m ((c : Thread nD τ).loc main_arg3) : S64x768.Idx → EReal) (ix2 o k) := by
  simp only [V, hostOps0, hostOps0_1, hostOps0_2]
  after_reads_at

/-- The second low-rank factor is transposed. -/
theorem b_at (k : Fin 64) (o : Fin 768) : (V m c main_v2 : S64x768.Idx → EReal) (ix2 k o)
    = (m ((c : Thread nD τ).loc main_arg4) : S768x64.Idx → EReal) (ix2 o k) := by
  simp only [V, hostOps0, hostOps0_1, hostOps0_2]
  after_reads_at

/-- The host's floor division by 96, word by word: on the 768 feature numbers it is `k / 96`. -/
theorem floor_word (k : Fin 768) :
    Scalar.select
          (IntOp.andi
            (IntOp.cmpi CmpIPredicate.ne
              (if BitVec.ofNat 32 k.val = 0 then (0 : BitVec 32) else if (BitVec.ofNat 32 k.val).msb = true then (-1 : BitVec 32) else 1)
              (if (96#32 : BitVec 32) = 0 then (0 : BitVec 32) else if BitVec.msb 96#32 = true then (-1 : BitVec 32) else 1))
            (IntOp.cmpi CmpIPredicate.ne (IntOp.remsi ArithUnit.host (BitVec.ofNat 32 k.val) 96#32) 0#32))
          (IntOp.subi (IntOp.divsi ArithUnit.host (BitVec.ofNat 32 k.val) 96#32) 1#32)
          (IntOp.divsi ArithUnit.host (BitVec.ofNat 32 k.val) 96#32) = BitVec.ofNat 32 (Fragment.frag k).val := by
  rw [Routing.remsi_word .host (by omega) (by decide) (by decide), Routing.divsi_word .host (by omega) (by decide) (by decide)]
  revert k
  decide +kernel

/-- The fragment number of each feature, as the host computes it. -/
theorem part_at (k : Fin 768) : (V m c main_v4 : S768.Idx → BitVec 32) (ix1 k) = BitVec.ofNat 32 (Fragment.frag k).val := by
  simp only [V, hostOps0, hostOps0_1, hostOps0_2]
  after_reads_at
  exact floor_word k

/-- Two fragment numbers compare equal, as words, exactly when they are equal. -/
theorem same_word : ∀ f g : Fin 8,
    IntOp.cmpi CmpIPredicate.eq (BitVec.ofNat 32 f.val) (BitVec.ofNat 32 g.val) = if f = g then 1#1 else 0#1 := by
  decide

/-- The 0/1 table: one where the fragment is the feature's. -/
theorem e_at (f : Fin 8) (k : Fin 768) : (V m c main_v28 : S8x768.Idx → EReal) (ix2 f k) = if f = Fragment.frag k then (1 : EReal) else 0 := by
  simp only [V, hostOps0, hostOps0_1, hostOps0_2]
  after_reads_at
  refine (congrArg (fun z => FloatOps.uitofp (F := Ideal) FTy.f32 (IntOp.cmpi CmpIPredicate.eq (BitVec.ofNat 32 f.val) z)) (floor_word k)).trans ?_
  rw [same_word]
  split
  · exact congrArg Nat.cast (by decide : (1#1).toNat = 1) |>.trans Nat.cast_one
  · exact congrArg Nat.cast (by decide : (0#1).toNat = 0) |>.trans Nat.cast_zero

/-- The two index columns of the scatter: update `k` goes to row `k`, column `k / 96`. -/
theorem target_at (k : Fin 768) : (V m c main_v20 : S768x2.Idx → BitVec 32) (ix2 k 0) = BitVec.ofNat 32 k.val
    ∧ (V m c main_v20 : S768x2.Idx → BitVec 32) (ix2 k 1) = BitVec.ofNat 32 (Fragment.frag k).val := by
  constructor
  · simp only [V, hostOps0, hostOps0_1, hostOps0_2]
    after_reads_at
    exact Routing.wrap_of_lt _ _ (by
      rw [BitVec.toNat_ofNat]
      omega)
  · simp only [V, hostOps0, hostOps0_1, hostOps0_2]
    after_reads_at
    refine Eq.trans (Routing.wrap_of_lt _ _ ?_) (floor_word k)
    refine (congrArg BitVec.toNat (floor_word k)).trans_lt ?_
    rw [BitVec.toNat_ofNat]
    omega

/-- The scattered values: the selectors' weights in reading order. -/
theorem update_at (k : Fin 768) : (V m c main_v5 : S768.Idx → EReal) (ix1 k)
    = (m ((c : Thread nD τ).loc main_arg1) : S8x96.Idx → EReal) (ix2 (Fragment.frag k) (Fragment.lane k)) := by
  simp only [V, hostOps0, hostOps0_1, hostOps0_2]
  after_reads_at
  rfl

/-- The table that is scattered into is zero. -/
theorem zero_at (k : Fin 768) (f : Fin 8) : (V m c main_v6 : S768x8.Idx → EReal) (ix2 k f) = (0 : EReal) := by
  simp only [V, hostOps0, hostOps0_1, hostOps0_2]
  after_reads_at

/-- The selectors' table is the scatter of their weights. -/
theorem table_eq : (V m c main_v21 : S768x8.Idx → EReal)
    = Host.scatter scatter_S768x8_S768x2_S768_n_01_01_1 (fun _ b => b) (V m c main_v6 : S768x8.Idx → EReal)
        (V m c main_v20 : S768x2.Idx → BitVec 32) (V m c main_v5 : S768.Idx → EReal) := by
  simp only [V, hostOps0, hostOps0_1, hostOps0_2]
  after_reads_simp
  rfl

/-- Update `n` lands where its two index words say. -/
theorem lands (t : IVec S768x2 32) (n k : Fin 768) (f : Fin 8) :
    scatter_S768x8_S768x2_S768_n_01_01_1.resultIdx? (ix1 n) t = some (ix2 k f)
      ↔ (t (ix2 n 0)).toInt = k.val ∧ (t (ix2 n 1)).toInt = f.val := by
  have h0 : scatter_S768x8_S768x2_S768_n_01_01_1.start (ix1 n) t 0 = (t (ix2 n 0)).toInt := by
    show (t (scatter_S768x8_S768x2_S768_n_01_01_1.siIdx (ix1 n) _)).toInt = _
    refine congrArg (fun j => (t j).toInt) (funext fun b => Fin.ext ?_)
    match b with
    | ⟨0, _⟩ => rfl
    | ⟨1, _⟩ => rfl
  have h1 : scatter_S768x8_S768x2_S768_n_01_01_1.start (ix1 n) t 1 = (t (ix2 n 1)).toInt := by
    show (t (scatter_S768x8_S768x2_S768_n_01_01_1.siIdx (ix1 n) _)).toInt = _
    refine congrArg (fun j => (t j).toInt) (funext fun b => Fin.ext ?_)
    match b with
    | ⟨0, _⟩ => rfl
    | ⟨1, _⟩ => rfl
  have w0 : scatter_S768x8_S768x2_S768_n_01_01_1.window (ix1 n) 0 = 0 := rfl
  have w1 : scatter_S768x8_S768x2_S768_n_01_01_1.window (ix1 n) 1 = 0 := rfl
  refine (Routing.resultIdx?_ix2 scatter_S768x8_S768x2_S768_n_01_01_1 (ix1 n) t k f).trans ?_
  rw [h0, h1, w0, w1]
  omega

/-- The selectors' table: column `f` holds the selector of fragment `f` at that fragment's features and zero elsewhere. -/
theorem s_at (k : Fin 768) (f : Fin 8) : (V m c main_v21 : S768x8.Idx → EReal) (ix2 k f)
    = if Fragment.frag k = f then
        (m ((c : Thread nD τ).loc main_arg1) : S8x96.Idx → EReal) (ix2 (Fragment.frag k) (Fragment.lane k)) else (0 : EReal) := by
  have hl : ∀ n : Fin 768, scatter_S768x8_S768x2_S768_n_01_01_1.resultIdx? (ix1 n) (V m c main_v20 : S768x2.Idx → BitVec 32) = some (ix2 k f)
      ↔ n = k ∧ Fragment.frag n = f := fun n => by
    rw [lands, (target_at m c n).1, (target_at m c n).2, Fin.ext_iff, Fin.ext_iff,
      StableHlo.Predicate.toInt_ofNat_small _ (by omega), StableHlo.Predicate.toInt_ofNat_small _ (by omega)]
    omega
  rw [table_eq]
  split
  · rename_i h
    refine Routing.scatter_set_hit _ _ _ _ _ _ (fun j hj => ?_) (ix1 k) ((hl k).2 ⟨rfl, h⟩)
    idx_vars j
    rw [((hl _).1 hj).1]
    exact update_at m c k
  · rename_i h
    refine (Routing.scatter_set_miss _ _ _ _ _ (fun j hj => ?_)).trans (zero_at m c k f)
    idx_vars j
    have := (hl _).1 hj
    exact h (this.1 ▸ this.2)

end Cert.KernelIdeal.Hand
end
-- ==== Proof.Array.lean ====
/- The kernel's whole result array, and what the precondition says of `x`. -/
module

public import proofs.«01_k».proof.Proof.Tables
public import proofs.«01_k».proof.Pre_x_finite
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.ShloMosaic.Pointwise

/-- The block each window names at grid point `t`: the rows `t` of `x` and of the result, and the one block of each table. -/
theorem places : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] ∧ t.val < 16 :=
  (by decide +kernel : ∀ t : Fin grid0.N, _)

variable (m : (ℓ : Loc nD τ sig) → Buf (Elt Ideal) ℓ) (c : Dev nD)

/-- The result the mathematics asks for, over the arrays the launch holds. -/
def wanted : S8192x768.Idx → EReal := fun i =>
  Fragment.row (fun k => (m ((c : Thread nD τ).loc main_arg0) : S8192x768.Idx → EReal) (ix2 (i 0) k))
    (fun f l => (m ((c : Thread nD τ).loc main_arg1) : S8x96.Idx → EReal) (ix2 f l))
    (fun f l o => (m ((c : Thread nD τ).loc main_arg2) : S8x96x768.Idx → EReal) (ix3 f l o))
    (fun d k => (m ((c : Thread nD τ).loc main_arg3) : S64x768.Idx → EReal) (ix2 d k))
    (fun o d => (m ((c : Thread nD τ).loc main_arg4) : S768x64.Idx → EReal) (ix2 o d)) (i 1)

/-- Every point's block of the scattered selectors' table is the whole of it. -/
theorem block_s (t : Fin cfg0.N) : (iblk m c 1 t : S768x8.Idx → EReal) = V m c main_v21 := by
  funext j
  blk_ext [iblk, places t]

/-- Every point's block of the 0/1 table is the whole of it. -/
theorem block_e (t : Fin cfg0.N) : (iblk m c 2 t : S8x768.Idx → EReal) = V m c main_v28 := by
  funext j
  blk_ext [iblk, places t]

/-- Every point's block of the experts' rows is the whole of it. -/
theorem block_w (t : Fin cfg0.N) : (iblk m c 3 t : S768x768.Idx → EReal) = V m c main_v0 := by
  funext j
  blk_ext [iblk, places t]

/-- Every point's block of the first low-rank factor is the whole of it. -/
theorem block_a (t : Fin cfg0.N) : (iblk m c 4 t : S768x64.Idx → EReal) = V m c main_v1 := by
  funext j
  blk_ext [iblk, places t]

/-- Every point's block of the second low-rank factor is the whole of it. -/
theorem block_b (t : Fin cfg0.N) : (iblk m c 5 t : S64x768.Idx → EReal) = V m c main_v2 := by
  funext j
  blk_ext [iblk, places t]

/-- Row `r` of the block of `x` at point `t` is row `512 t + r` of `x`. -/
theorem block_x (t : Fin cfg0.N) (r : Fin 512) (k : Fin 768) (R : Fin 8192) (h : R.val = t.val * 512 + r.val) :
    (iblk m c 0 t : S512x768.Idx → EReal) (ix2 r k) = (m ((c : Thread nD τ).loc main_arg0) : S8192x768.Idx → EReal) (ix2 R k) := by
  blk_ext [iblk, V, places t]

/-- What point `t` leaves at `(r, o)` of its block is the wanted result at row `512 t + r`. -/
theorem point (hx : ∀ i, (m ((c : Thread nD τ).loc main_arg0) : S8192x768.Idx → EReal) i ≠ (⊤ : EReal)
      ∧ (m ((c : Thread nD τ).loc main_arg0) : S8192x768.Idx → EReal) i ≠ (⊥ : EReal))
    (t : Fin cfg0.N) (r : Fin 512) (o : Fin 768) (R : Fin 8192) (h : R.val = t.val * 512 + r.val) :
    k0_pay1 (iblk m c 0 t) (iblk m c 1 t) (iblk m c 2 t) (iblk m c 3 t) (iblk m c 4 t) (iblk m c 5 t) (ix2 r o)
      = wanted m c (ix2 R o) := by
  refine (block_at _ _ _ _ _ _ r o).trans ?_
  refine Fragment.tiled_eq_row _ (fun f l => (m ((c : Thread nD τ).loc main_arg1) : S8x96.Idx → EReal) (ix2 f l))
    (fun f l o => (m ((c : Thread nD τ).loc main_arg2) : S8x96x768.Idx → EReal) (ix3 f l o))
    (fun d k => (m ((c : Thread nD τ).loc main_arg3) : S64x768.Idx → EReal) (ix2 d k))
    (fun o d => (m ((c : Thread nD τ).loc main_arg4) : S768x64.Idx → EReal) (ix2 o d))
    _ _ _ _ _ (fun k => ?_) (fun k f => ?_) (fun f k => ?_) (fun k o => ?_) (fun k d => ?_) (fun d o => ?_) o |>.trans ?_
  · rw [block_x m c t r k R h]
    exact hx _
  · exact (congrFun (block_s m c t) _).trans (s_at m c k f)
  · exact (congrFun (block_e m c t) _).trans (e_at m c f k)
  · exact (congrFun (block_w m c t) _).trans (w_at m c k o)
  · exact (congrFun (block_a m c t) _).trans (a_at m c k d)
  · exact (congrFun (block_b m c t) _).trans (b_at m c d o)
  · exact congrArg (fun z => Fragment.row z _ _ _ _ o) (funext fun k => block_x m c t r k R h)

/-- The kernel's result array is the wanted one when every entry of `x` is finite. -/
theorem final (hx : ∀ i, (m ((c : Thread nD τ).loc main_arg0) : S8192x768.Idx → EReal) i ≠ (⊤ : EReal)
      ∧ (m ((c : Thread nD τ).loc main_arg0) : S8192x768.Idx → EReal) i ≠ (⊥ : EReal)) :
    (dats m 0 c).arrAt 6 cfg0.N = wanted m c := by
  refine (dats m 0 c).arrAt_eq_of_covers 6 _ (by decide +kernel) fun t hf y => ?_
  blk_simp
  rw [after0_6]
  frame_out
  idx_vars y
  have ht : t.val < 16 := (places t).2.2.2.2.2.2.2
  have hR : t.val * 512 + y0.val < 8192 := by omega
  have h := point m c hx t y0 y1 ⟨t.val * 512 + y0.val, hR⟩ rfl
  rw [h]
  blk_ext [places t]

/-- A comparison whose answer, as a word, is one is true. -/
theorem true_of_word (p : Prop) [Decidable p] (h : BitVec.ofBool (decide p) = 1#1) : p := by
  by_contra hn
  rw [decide_eq_false hn] at h
  exact absurd h (by decide)

/-- The precondition, read: every entry of `x` is finite. -/
theorem finite_of_pre [Cert.Pre_x_finite.Facts] (x : Vec Ideal S8192x768 .f32) (s : Vec Ideal S8x96 .f32) (w : Vec Ideal S8x96x768 .f32)
    (a : Vec Ideal S64x768 .f32) (b : Vec Ideal S768x64 .f32)
    (h : Cert.Pre_x_finite.fn (F := Ideal) x s w a b = fun _ => 1#1) (i : S8192x768.Idx) :
    (x i : EReal) ≠ ⊤ ∧ (x i : EReal) ≠ ⊥ := by
  have := congrFun h i
  revert this
  pointwise [Cert.Pre_x_finite.fn]
  rw [show Ideal.ofBits FTy.f32 2139095040#32 = (⊤ : EReal) by simp [Ideal.ofBits, Ideal.ieee]]
  intro hb
  have hlt : max (x i : EReal) (-(x i : EReal)) < ⊤ := true_of_word _ hb
  rw [max_lt_iff] at hlt
  refine ⟨hlt.1.ne, fun hbot => ?_⟩
  have h2 := hlt.2
  rw [hbot, EReal.neg_bot] at h2
  exact lt_irrefl _ h2

end Cert.KernelIdeal.Hand
end
-- ==== Proof.Ref.lean ====
/- What the reference computes, read at one element: `Fragment.row` of the row of `x` and the weights. -/
module

public import proofs.«01_k».proof.Proof.Gen.ReferenceIdeal.Read
public import Idealize.ShloMosaic.Lib.Pointwise
public import Idealize.ShloMosaic.Lib.Routing.OpsPair
public import proofs.«01_k».proof.Proof.Spec

@[expose] public section

set_option maxRecDepth 16384

noncomputable section

namespace Cert.ReferenceIdeal.Hand

open Cert.ReferenceIdeal Cert.ReferenceIdeal.Gen Cert.ReferenceIdeal.Read Idealize.ShloMosaic Idealize.ShloMosaic.Pointwise

/-- The reference's softmax is the share of the fragment. Its maximum is taken once more with minus infinity, from which
    the fold starts already. -/
theorem probs_at (x : FVec Ideal S8192x768 .f32) (s : FVec Ideal S8x96 .f32) (r : Fin 8192) (f : Fin 8) :
    val_main_v13 (F := Ideal) x s (ix2 r f)
      = Fragment.share (Fragment.score (fun k => x (ix2 r k)) (fun g i => s (ix2 g i))) f := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rw [max_eq_right (Finset.le_fold_max _ |>.2 (Or.inl le_rfl))]
  rfl

/-- The reference's experts' part: the weighted row times the experts' matrices. -/
theorem experts_at (x : FVec Ideal S8192x768 .f32) (s : FVec Ideal S8x96 .f32) (w : FVec Ideal S8x96x768 .f32) (r : Fin 8192)
    (o : Fin 768) : val_main_v17 (F := Ideal) x s w (ix2 r o)
      = ∑ f, ∑ i, x (ix2 r (Fragment.cell f i))
          * Fragment.share (Fragment.score (fun k => x (ix2 r k)) (fun g i => s (ix2 g i))) f * w (ix3 f i o) := by
  pointwise [val_main_v17, val_main_v16, val_main_v15, val_main_v14, val_main_v0]
  simp only [probs_at]
  rfl

/-- The table of fragment numbers that the reference gathers by: entry `k` holds `k / 96`. -/
theorem table_at (k : Fin 768) : val_main_v26 (F := Ideal) (ix2 k 0) = BitVec.ofNat 32 (Fragment.frag k).val := by
  pointwise [val_main_v26, val_main_v25, val_main_v24, val_main_v23, val_main_v22, val_main_v21, val_main_v20, val_main_v19, val_main_v18, val_main_c,
    val_main_c_2]
  exact Routing.wrap_of_lt _ _ (by
    rw [BitVec.toNat_ofNat]
    omega)

/-- A gather of columns reads, at `(r, k)`, the column whose number the table holds at `k`. -/
theorem gather_at (p : FVec Ideal S8192x8 .f32) (t : IVec S768x1 32) (r : Fin 8192) (k : Fin 768) (f : Fin 8)
    (ht : t (ix2 k 0) = BitVec.ofNat 32 f.val) :
    Host.gather gather_S8192x8_S768x1_S8192x768_0_1_n_n_1_1_81921 p t (ix2 r k) = p (ix2 r f) := by
  refine congrArg p (funext fun a => Fin.ext ?_)
  have hs : ∀ c, gather_S8192x8_S768x1_S8192x768_0_1_n_n_1_1_81921.siIdx (ix2 r k) c = ix2 k 0 := fun c => funext fun b => Fin.ext (by
    match b with
    | ⟨0, _⟩ => rfl
    | ⟨1, _⟩ =>
      have : c.val < 1 := c.isLt
      show c.val = 0
      omega)
  match a with
  | ⟨0, _⟩ =>
    show 0 + 0 + r.val = r.val
    omega
  | ⟨1, _⟩ =>
    show min (t (gather_S8192x8_S768x1_S8192x768_0_1_n_n_1_1_81921.siIdx (ix2 r k) _)).toInt.toNat 7 + 0 + 0 = f.val
    rw [hs, ht]
    exact (by decide : ∀ f : Fin 8, min (BitVec.ofNat 32 f.val).toInt.toNat 7 + 0 + 0 = f.val) f

/-- The reference's shares spread over the features: feature `k` has its fragment's share. -/
theorem spread_at (x : FVec Ideal S8192x768 .f32) (s : FVec Ideal S8x96 .f32) (r : Fin 8192) (k : Fin 768) :
    val_main_v27 (F := Ideal) x s (ix2 r k)
      = Fragment.share (Fragment.score (fun k => x (ix2 r k)) (fun g i => s (ix2 g i))) (Fragment.frag k) :=
  (gather_at _ _ r k (Fragment.frag k) (table_at k)).trans (probs_at x s r _)

/-- The reference's result at `(r, o)`. -/
theorem result_at (x : FVec Ideal S8192x768 .f32) (s : FVec Ideal S8x96 .f32) (w : FVec Ideal S8x96x768 .f32)
    (a : FVec Ideal S64x768 .f32) (b : FVec Ideal S768x64 .f32) (r : Fin 8192) (o : Fin 768) :
    val_main_v35 (F := Ideal) x s w a b (ix2 r o)
      = Fragment.row (fun k => x (ix2 r k)) (fun f i => s (ix2 f i)) (fun f i o => w (ix3 f i o)) (fun c k => a (ix2 c k))
          (fun o c => b (ix2 o c)) o := by
  pointwise [val_main_v35, val_main_v34, val_main_v33, val_main_v32, val_main_v31, val_main_v30, val_main_v29, val_main_v28,
    val_main_cst_3]
  simp only [experts_at, spread_at, Ideal.ofBits_one_f32]
  rfl

end Cert.ReferenceIdeal.Hand
end
-- ==== Proof.lean ====
/- The certificate: the five claims, put together from the kernel's runs, the value of its array and the reference's value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.Ref
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The side condition of the precondition's own text. -/
theorem pre_facts : Cert.Pre_x_finite.Facts := ⟨by decide⟩

attribute [local instance] pre_facts

/-- The reference runs, leaves its arguments as they were and every semaphore at zero. -/
theorem reference_frame : Cert.quiescent_ReferenceIdeal := by
  intro m g _
  refine θ_run_mono (Cert.ReferenceIdeal.Value.run m g) fun r hr => ⟨fun c => (hr c).2, ?_⟩
  exact sem_eq_zero_of_no_sems (by decide) _

/-- From memories that agree on the arguments the reference's result is the wanted array. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v35 m' c = Cert.KernelIdeal.Hand.wanted m c := by
  rw [Cert.ReferenceIdeal.Read.val_main_v35_eq, h.1, h.2.1, h.2.2.1, h.2.2.2.1, h.2.2.2.2]
  funext i
  idx_vars i
  exact Cert.ReferenceIdeal.Hand.result_at _ _ _ _ _ i0 i1

/-- Kernel and reference leave the same array, at exact arithmetic, when `x` is finite. -/
theorem same_value : Cert.algebraic_KernelIdeal_ReferenceIdeal_pre_x_finite := by
  intro m g m' g' hpre hagree
  have hx : ∀ c : Dev Cert.KernelIdeal.nD, ∀ i, _ := fun c => Cert.KernelIdeal.Hand.finite_of_pre _ _ _ _ _ (hpre c)
  refine ⟨fun c => Cert.KernelIdeal.Hand.wanted m c, ?_, ?_⟩
  · refine θ_run_mono (Cert.KernelIdeal.Value.run_blocks m g) fun r hr c => ⟨?_, (hr c).2⟩
    exact (hr c).1.trans (Cert.KernelIdeal.Hand.final m c (hx c))
  · refine θ_run_mono (Cert.ReferenceIdeal.Value.run m' g') fun r hr c => ⟨?_, (hr c).2⟩
    exact (hr c).1.trans (reference_value m m' c (hagree c))

theorem claim : Cert.Claim := ⟨Cert.Kernel.Gen.facts, Cert.KernelIdeal.Gen.facts, Cert.ReferenceIdeal.Gen.facts, pre_facts,
  fun m g _ => Cert.Kernel.Gen.frame m g, fun m g _ => Cert.KernelIdeal.Gen.frame m g, fun m g _ => Cert.KernelIdeal.Gen.frame m g,
  reference_frame, fun m g _ => reference_frame m g trivial, trivial, same_value⟩

end Cert.Proof

end
